-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![128, 1563, 8, 128]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![128, 1563, 8, 128]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) i = 1#1 → r.2.mem ((c.tc : Thread Cert.ReferenceIdeal.nD Cert.ReferenceIdeal.τ).loc Cert.ReferenceIdeal.main_v5) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S1024x128 : Shape := ⟨2, ![1024, 128]⟩
abbrev S1024 : Shape := ⟨1, ![1024]⟩
abbrev S200000x128 : Shape := ⟨2, ![200000, 128]⟩
abbrev S200000 : Shape := ⟨1, ![200000]⟩
abbrev S128x1563x8x128 : Shape := ⟨4, ![128, 1563, 8, 128]⟩
abbrev S_ : Shape := ⟨0, ![]⟩

class Facts : Prop where
  bcast_S_S128x1563x8x128 : S_.BroadcastsInDim S128x1563x8x128 (![] : Fin 0 → Fin S128x1563x8x128.rank)

variable [Facts]

def fn {F : FTy → Type} [FloatOps F] (main_arg0 : FVec F S1024x128 .fp8e4m3) (main_arg1 : FVec F S1024 .f32) (main_arg2 : FVec F S200000x128 .fp8e4m3) (main_arg3 : FVec F S200000 .f32) : IVec S128x1563x8x128 1 :=
  let main_v0 : IVec S128x1563x8x128 32 := iotaInDim S128x1563x8x128 32 1
  let main_c : IVec S_ 32 := constantI S_ 32 128#32
  let main_v1 : IVec S128x1563x8x128 32 := broadcastInDim S128x1563x8x128 ![] bcast_S_S128x1563x8x128 main_c
  let main_v2 : IVec S128x1563x8x128 32 := muli main_v0 main_v1
  let main_v3 : IVec S128x1563x8x128 32 := iotaInDim S128x1563x8x128 32 3
  let main_v4 : IVec S128x1563x8x128 32 := addi main_v2 main_v3
  let main_c_0 : IVec S_ 32 := constantI S_ 32 200000#32
  let main_v5 : IVec S128x1563x8x128 32 := broadcastInDim S128x1563x8x128 ![] bcast_S_S128x1563x8x128 main_c_0
  let main_v6 : IVec S128x1563x8x128 1 := cmpi .slt main_v4 main_v5
  main_v6
-- ==== Kernel.lean ====
abbrev S1024x128 : Shape := ⟨2, ![1024, 128]⟩
abbrev S1024 : Shape := ⟨1, ![1024]⟩
abbrev S200000x128 : Shape := ⟨2, ![200000, 128]⟩
abbrev S200000 : Shape := ⟨1, ![200000]⟩
abbrev S1024x1 : Shape := ⟨2, ![1024, 1]⟩
abbrev S1x200000 : Shape := ⟨2, ![1, 200000]⟩
abbrev S128x1563x8x128 : Shape := ⟨4, ![128, 1563, 8, 128]⟩
abbrev S2048x128 : Shape := ⟨2, ![2048, 128]⟩
abbrev S1x2048 : Shape := ⟨2, ![1, 2048]⟩
abbrev S128x16x8x128 : Shape := ⟨4, ![128, 16, 8, 128]⟩
abbrev S256x128 : Shape := ⟨2, ![256, 128]⟩
abbrev S256x2048 : Shape := ⟨2, ![256, 2048]⟩
abbrev S256x1 : Shape := ⟨2, ![256, 1]⟩
abbrev S8x128 : Shape := ⟨2, ![8, 128]⟩
abbrev S1x1x8x128 : Shape := ⟨4, ![1, 1, 8, 128]⟩

abbrev nBuf : Space → Nat
  | .hbm => 7
  | .vmem => 8
  | .smem => 0
  | _ => 0

abbrev bufTy : (tb : Table) → Fin (tcTables nBuf tb) → BufTy
  | .hbm, ⟨0, _⟩ => ⟨S1024x128, .fp8e4m3⟩
  | .hbm, ⟨1, _⟩ => ⟨S1024, .f32⟩
  | .hbm, ⟨2, _⟩ => ⟨S200000x128, .fp8e4m3⟩
  | .hbm, ⟨3, _⟩ => ⟨S200000, .f32⟩
  | .hbm, ⟨4, _⟩ => ⟨S1024x1, .f32⟩
  | .hbm, ⟨5, _⟩ => ⟨S1x200000, .f32⟩
  | .hbm, ⟨6, _⟩ => ⟨S128x1563x8x128, .f32⟩
  | .local _ .vmem, ⟨0, _⟩ => ⟨S1024x128, .fp8e4m3⟩
  | .local _ .vmem, ⟨1, _⟩ => ⟨S1024x1, .f32⟩
  | .local _ .vmem, ⟨2, _⟩ => ⟨S2048x128, .fp8e4m3⟩
  | .local _ .vmem, ⟨3, _⟩ => ⟨S2048x128, .fp8e4m3⟩
  | .local _ .vmem, ⟨4, _⟩ => ⟨S1x2048, .f32⟩
  | .local _ .vmem, ⟨5, _⟩ => ⟨S1x2048, .f32⟩
  | .local _ .vmem, ⟨6, _⟩ => ⟨S128x16x8x128, .f32⟩
  | .local _ .vmem, ⟨7, _⟩ => ⟨S128x16x8x128, .f32⟩
  | _, _ => ⟨S1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![98], ![false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c256_i32 : BitVec 32 := 256#32
  let v6 : BitVec 32 := Scalar.muli v5 c256_i32
  v6
def k0_off1 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c256_i32 : BitVec 32 := 256#32
  let v6 : BitVec 32 := Scalar.muli v5 c256_i32
  let v7 : BitVec 32 := v6
  let v8 : Index := Scalar.indexCast v7
  let c0_6 : Index := 0#32
  ![v8.toNat, 0]
def k0_off2 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c256_i32 : BitVec 32 := 256#32
  let v6 : BitVec 32 := Scalar.muli v5 c256_i32
  let v7 : BitVec 32 := v6
  let v11 : Index := Scalar.indexCast v7
  let c0_7 : Index := 0#32
  ![v11.toNat, 0]
def k0_off3 (k0_t1 : Fin k0_t1_loop.trips) (c0_i32_9 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32 : BitVec 32 := 32#32
  let v21 : BitVec 32 := Scalar.muli v5 c32_i32
  let v22 : BitVec 32 := Scalar.addi v21 c0_i32_9
  let v23 : Index := Scalar.indexCast v22
  let c0_10 : Index := 0#32
  let c0_11 : Index := 0#32
  let c0_12 : Index := 0#32
  ![v23.toNat, 0, 0, 0]
def k0_off4 (k0_t1 : Fin k0_t1_loop.trips) (c0_i32_14 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_13 : BitVec 32 := 32#32
  let v28 : BitVec 32 := Scalar.muli v5 c32_i32_13
  let v29 : BitVec 32 := Scalar.addi v28 c0_i32_14
  let v30 : Index := Scalar.indexCast v29
  let c1 : Index := 1#32
  let c0_15 : Index := 0#32
  let c0_16 : Index := 0#32
  ![v30.toNat, 1, 0, 0]
def k0_off5 (k0_t1 : Fin k0_t1_loop.trips) (c0_i32_18 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_17 : BitVec 32 := 32#32
  let v35 : BitVec 32 := Scalar.muli v5 c32_i32_17
  let v36 : BitVec 32 := Scalar.addi v35 c0_i32_18
  let v37 : Index := Scalar.indexCast v36
  let c2 : Index := 2#32
  let c0_19 : Index := 0#32
  let c0_20 : Index := 0#32
  ![v37.toNat, 2, 0, 0]
def k0_off6 (k0_t1 : Fin k0_t1_loop.trips) (c0_i32_22 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_21 : BitVec 32 := 32#32
  let v42 : BitVec 32 := Scalar.muli v5 c32_i32_21
  let v43 : BitVec 32 := Scalar.addi v42 c0_i32_22
  let v44 : Index := Scalar.indexCast v43
  let c3 : Index := 3#32
  let c0_23 : Index := 0#32
  let c0_24 : Index := 0#32
  ![v44.toNat, 3, 0, 0]
def k0_off7 (k0_t1 : Fin k0_t1_loop.trips) (c0_i32_26 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_25 : BitVec 32 := 32#32
  let v49 : BitVec 32 := Scalar.muli v5 c32_i32_25
  let v50 : BitVec 32 := Scalar.addi v49 c0_i32_26
  let v51 : Index := Scalar.indexCast v50
  let c4 : Index := 4#32
  let c0_27 : Index := 0#32
  let c0_28 : Index := 0#32
  ![v51.toNat, 4, 0, 0]
def k0_off8 (k0_t1 : Fin k0_t1_loop.trips) (c0_i32_30 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_29 : BitVec 32 := 32#32
  let v56 : BitVec 32 := Scalar.muli v5 c32_i32_29
  let v57 : BitVec 32 := Scalar.addi v56 c0_i32_30
  let v58 : Index := Scalar.indexCast v57
  let c5 : Index := 5#32
  let c0_31 : Index := 0#32
  let c0_32 : Index := 0#32
  ![v58.toNat, 5, 0, 0]
def k0_off9 (k0_t1 : Fin k0_t1_loop.trips) (c0_i32_34 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_33 : BitVec 32 := 32#32
  let v63 : BitVec 32 := Scalar.muli v5 c32_i32_33
  let v64 : BitVec 32 := Scalar.addi v63 c0_i32_34
  let v65 : Index := Scalar.indexCast v64
  let c6 : Index := 6#32
  let c0_35 : Index := 0#32
  let c0_36 : Index := 0#32
  ![v65.toNat, 6, 0, 0]
def k0_off10 (k0_t1 : Fin k0_t1_loop.trips) (c0_i32_38 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_37 : BitVec 32 := 32#32
  let v70 : BitVec 32 := Scalar.muli v5 c32_i32_37
  let v71 : BitVec 32 := Scalar.addi v70 c0_i32_38
  let v72 : Index := Scalar.indexCast v71
  let c7 : Index := 7#32
  let c0_39 : Index := 0#32
  let c0_40 : Index := 0#32
  ![v72.toNat, 7, 0, 0]
def k0_off11 (k0_t1 : Fin k0_t1_loop.trips) (c0_i32_42 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_41 : BitVec 32 := 32#32
  let v77 : BitVec 32 := Scalar.muli v5 c32_i32_41
  let v78 : BitVec 32 := Scalar.addi v77 c0_i32_42
  let v79 : Index := Scalar.indexCast v78
  let c8 : Index := 8#32
  let c0_43 : Index := 0#32
  let c0_44 : Index := 0#32
  ![v79.toNat, 8, 0, 0]
def k0_off12 (k0_t1 : Fin k0_t1_loop.trips) (c0_i32_46 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_45 : BitVec 32 := 32#32
  let v84 : BitVec 32 := Scalar.muli v5 c32_i32_45
  let v85 : BitVec 32 := Scalar.addi v84 c0_i32_46
  let v86 : Index := Scalar.indexCast v85
  let c9 : Index := 9#32
  let c0_47 : Index := 0#32
  let c0_48 : Index := 0#32
  ![v86.toNat, 9, 0, 0]
def k0_off13 (k0_t1 : Fin k0_t1_loop.trips) (c0_i32_50 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_49 : BitVec 32 := 32#32
  let v91 : BitVec 32 := Scalar.muli v5 c32_i32_49
  let v92 : BitVec 32 := Scalar.addi v91 c0_i32_50
  let v93 : Index := Scalar.indexCast v92
  let c10 : Index := 10#32
  let c0_51 : Index := 0#32
  let c0_52 : Index := 0#32
  ![v93.toNat, 10, 0, 0]
def k0_off14 (k0_t1 : Fin k0_t1_loop.trips) (c0_i32_54 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_53 : BitVec 32 := 32#32
  let v98 : BitVec 32 := Scalar.muli v5 c32_i32_53
  let v99 : BitVec 32 := Scalar.addi v98 c0_i32_54
  let v100 : Index := Scalar.indexCast v99
  let c11 : Index := 11#32
  let c0_55 : Index := 0#32
  let c0_56 : Index := 0#32
  ![v100.toNat, 11, 0, 0]
def k0_off15 (k0_t1 : Fin k0_t1_loop.trips) (c0_i32_58 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_57 : BitVec 32 := 32#32
  let v105 : BitVec 32 := Scalar.muli v5 c32_i32_57
  let v106 : BitVec 32 := Scalar.addi v105 c0_i32_58
  let v107 : Index := Scalar.indexCast v106
  let c12 : Index := 12#32
  let c0_59 : Index := 0#32
  let c0_60 : Index := 0#32
  ![v107.toNat, 12, 0, 0]
def k0_off16 (k0_t1 : Fin k0_t1_loop.trips) (c0_i32_62 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_61 : BitVec 32 := 32#32
  let v112 : BitVec 32 := Scalar.muli v5 c32_i32_61
  let v113 : BitVec 32 := Scalar.addi v112 c0_i32_62
  let v114 : Index := Scalar.indexCast v113
  let c13 : Index := 13#32
  let c0_63 : Index := 0#32
  let c0_64 : Index := 0#32
  ![v114.toNat, 13, 0, 0]
def k0_off17 (k0_t1 : Fin k0_t1_loop.trips) (c0_i32_66 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_65 : BitVec 32 := 32#32
  let v119 : BitVec 32 := Scalar.muli v5 c32_i32_65
  let v120 : BitVec 32 := Scalar.addi v119 c0_i32_66
  let v121 : Index := Scalar.indexCast v120
  let c14 : Index := 14#32
  let c0_67 : Index := 0#32
  let c0_68 : Index := 0#32
  ![v121.toNat, 14, 0, 0]
def k0_off18 (k0_t1 : Fin k0_t1_loop.trips) (c0_i32_70 : BitVec 32) : Fin 4 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v4 : BitVec 32 := Scalar.muli arg6 c1_i32_4
  let v5 : BitVec 32 := Scalar.addi c0_i32_5 v4
  let c32_i32_69 : BitVec 32 := 32#32
  let v126 : BitVec 32 := Scalar.muli v5 c32_i32_69
  let v127 : BitVec 32 := Scalar.addi v126 c0_i32_70
  let v128 : Index := Scalar.indexCast v127
  let c15 : Index := 15#32
  let c0_71 : Index := 0#32
  let c0_72 : Index := 0#32
  ![v128.toNat, 15, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x128 : Shape := ⟨2, ![1024, 128]⟩
abbrev S1024 : Shape := ⟨1, ![1024]⟩
abbrev S200000x128 : Shape := ⟨2, ![200000, 128]⟩
abbrev S200000 : Shape := ⟨1, ![200000]⟩
abbrev S1024x1 : Shape := ⟨2, ![1024, 1]⟩
abbrev S1x200000 : Shape := ⟨2, ![1, 200000]⟩
abbrev S1024x200000 : Shape := ⟨2, ![1024, 200000]⟩
abbrev S_ : Shape := ⟨0, ![]⟩
abbrev S1024x200064 : Shape := ⟨2, ![1024, 200064]⟩
abbrev S128x8x1563x128 : Shape := ⟨4, ![128, 8, 1563, 128]⟩
abbrev S128x1563x8x128 : Shape := ⟨4, ![128, 1563, 8, 128]⟩

abbrev nBuf : Space → Nat
  | .hbm => 12
  | .vmem => 5
  | .smem => 0
  | _ => 0

abbrev bufTy : (tb : Table) → Fin (tcTables nBuf tb) → BufTy
  | .hbm, ⟨0, _⟩ => ⟨S1024x128, .fp8e4m3⟩
  | .hbm, ⟨1, _⟩ => ⟨S1024, .f32⟩
  | .hbm, ⟨2, _⟩ => ⟨S200000x128, .fp8e4m3⟩
  | .hbm, ⟨3, _⟩ => ⟨S200000, .f32⟩
  | .hbm, ⟨4, _⟩ => ⟨S1024x1, .f32⟩
  | .hbm, ⟨5, _⟩ => ⟨S1x200000, .f32⟩
  | .hbm, ⟨6, _⟩ => ⟨S1024x200000, .f32⟩
  | .hbm, ⟨7, _⟩ => ⟨S_, .i32⟩
  | .hbm, ⟨8, _⟩ => ⟨S_, .f32⟩
  | .hbm, ⟨9, _⟩ => ⟨S1024x200064, .f32⟩
  | .hbm, ⟨10, _⟩ => ⟨S128x8x1563x128, .f32⟩
  | .hbm, ⟨11, _⟩ => ⟨S128x1563x8x128, .f32⟩
  | .local _ .vmem, ⟨0, _⟩ => ⟨S1024x128, .fp8e4m3⟩
  | .local _ .vmem, ⟨1, _⟩ => ⟨S1024x1, .f32⟩
  | .local _ .vmem, ⟨2, _⟩ => ⟨S200000x128, .fp8e4m3⟩
  | .local _ .vmem, ⟨3, _⟩ => ⟨S1x200000, .f32⟩
  | .local _ .vmem, ⟨4, _⟩ => ⟨S1024x200000, .f32⟩
  | _, _ => ⟨S1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S200000x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x200000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x200000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
module

public import proofs.«01_k».proof.Proof.Gen.Kernel.Loops
public import Idealize.ShloMosaic.Lib.Ring
public import proofs.«01_k».proof.Proof.Gen.Kernel.Frame
public import Idealize.ShloMosaic.Lib.Pipeline.FrameBody
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- ONE POINT OF THE GRID: from the four input blocks and an output buffer of any contents the body leaves the inputs
    as they are and the output buffer at some contents. -/
theorem sound_body (c : Dev nD) (E : Set ℕ) (i : grid0.Coords) (arg1 : Memref sig .tc .vmem S1024x128 .fp8e4m3) (harg1 : arg1.IsWhole) (arg2 : Memref sig .tc .vmem S1024x1 .f32) (harg2 : arg2.IsWhole) (arg3 : Memref sig .tc .vmem S2048x128 .fp8e4m3) (harg3 : arg3.IsWhole) (arg4 : Memref sig .tc .vmem S1x2048 .f32) (harg4 : arg4.IsWhole) (arg5 : Memref sig .tc .vmem S128x16x8x128 .f32) (harg5 : arg5.IsWhole)
    (x1 : Vec F S1024x128 .fp8e4m3) (x2 : Vec F S1024x1 .f32) (x3 : Vec F S2048x128 .fp8e4m3) (x4 : Vec F S1x2048 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ ∃ d, owns (c : Thread nD τ) arg5 fullShare d) -∗ K ⟨⟩))
      ⊢ wp frame (wpE (defs₀ (F := F)) Variants.none c none) E (cc0_dense i arg1 harg1 arg2 harg2 arg3 harg3 arg4 harg4 arg5 harg5) K := by
  simp only [cc0_dense_eq_skeleton]; unfold cc0_dense_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; iexists _; isplitr
  swap; · iexact H5
  ipureintro; rfl

/-- The block of `b` at a point, as its staging buffer holds it: past the end of the array the buffer keeps `d`. -/
def bcols (c : Dev nD) (t : Fin cfg0.N) (d : Vec F S2048x128 .fp8e4m3) : Vec F S2048x128 .fp8e4m3 :=
  win0_2.fill (grid0.coords t) d (iblk m c 2 t)
/-- The block of the scales of `b` likewise. -/
def bscales (c : Dev nD) (t : Fin cfg0.N) (d : Vec F S1x2048 .f32) : Vec F S1x2048 .f32 :=
  win0_3.fill (grid0.coords t) d (iblk m c 3 t)
/-- The proof data of the pipeline: the inputs' buffers at their blocks; nothing is said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bcols m c t (fun _ => Scalar.ofBits .fp8e4m3 0#8)
    | ⟨3, _⟩ => bscales m c t (fun _ => Scalar.ofBits .f32 0#32)
    | ⟨4, _⟩ => fun _ => Scalar.ofBits .f32 0#32
  Φ _ := Pipeline.ΦA spec0 c
  q _ := fullShare
  owed _ := 0

/-- The output window is the one whose contents are not followed. -/
def fgt : Fin cfg0.W → Bool := fun w => match w with
  | ⟨4, _⟩ => true
  | _ => false

/-- Nothing is asked of what the output buffer leaves the body at. -/
def leavesAny : (w : Fin cfg0.W) → Fin cfg0.N → ((cfg0.win w).block.Idx → Elt F (cfg0.win w).elt) → Prop := fun _ _ _ => True

theorem before_0 (c : Dev nD) (t : Fin cfg0.N) (d) : (dats m 0 c).before (0 : Fin 5) t d = iblk m c 0 t :=
  before0_0_of m _ rfl (fun _ => rfl) t d
theorem before_1 (c : Dev nD) (t : Fin cfg0.N) (d) : (dats m 0 c).before (1 : Fin 5) t d = iblk m c 1 t :=
  before0_1_of m _ rfl (fun _ => rfl) t d
theorem before_2 (c : Dev nD) (t : Fin cfg0.N) (d) : (dats m 0 c).before (2 : Fin 5) t d = bcols m c t d := by
  unfold Dat.before; rw [if_pos (fetch0_2 t)]; rfl
theorem before_3 (c : Dev nD) (t : Fin cfg0.N) (d) : (dats m 0 c).before (3 : Fin 5) t d = bscales m c t d := by
  unfold Dat.before; rw [if_pos (fetch0_3 t)]; rfl

/-- The body obligation: the four inputs arrive at their blocks and leave so; the output buffer arrives at anything
    and leaves at anything. -/
theorem body_obligation (c : Dev nD) :
    BodyObligationRel (dats m 0 c) (defs₀ (F := F)) Variants.none () Set.univ fgt (leavesAny) := fun t => by
  rw [bigSep_W0, bigSep_W0]
  simp only [show fgt 0 = false from rfl, show fgt 1 = false from rfl, show fgt 2 = false from rfl, show fgt 3 = false from rfl,
    show fgt 4 = true from rfl]
  rw [show (dats m 0 c).Φ t.succ = (dats m 0 c).Φ t.castSucc from rfl,
    show (dats m 0 c).owesAt () t.succ = (dats m 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%d4, -, H4⟩⟩
  rw [before_0 m c t d0, before_1 m c t d1, before_2 m c t d2, before_3 m c t d3]
  iapply (sound_body (F := F) c Set.univ (grid0.coords t) _ _ _ _ _ _ _ _ _ _
    (iblk m c 0 t) (iblk m c 1 t) (bcols m c t d2) (bscales m c t d3) _)
  isplitl [H0]; · iexact H0
  isplitl [H1]; · iexact H1
  isplitl [H2]; · iexact H2
  isplitl [H3]; · iexact H3
  isplitl [H4]; · iexists d4; iexact H4
  iintro ⟨H0, H1, H2, H3, ⟨%d5, H4⟩⟩
  isplitl [HΦ]; · iexact HΦ
  isplitl [Ho]; · iexact Ho
  have h2 : win0_2.cut (grid0.coords t) (bcols m c t (fun _ => Scalar.ofBits .fp8e4m3 0#8)) = iblk m c 2 t := win0_2.cut_fill _ _ _
  have h3 : win0_3.cut (grid0.coords t) (bscales m c t (fun _ => Scalar.ofBits .f32 0#32)) = iblk m c 3 t := win0_3.cut_fill _ _ _
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) (bcols m c t (fun _ => Scalar.ofBits .fp8e4m3 0#8))))
    rw [h2]; exact BI.Entails.refl _
  isplitl [H3]
  · iexists d3
    change _ ⊢ owns (c : Thread nD τ) (stage0_3 (cfg0.slots t 3)) fullShare (win0_3.fill (grid0.coords t) d3 (win0_3.cut (grid0.coords t) (bscales m c t (fun _ => Scalar.ofBits .f32 0#32))))
    rw [h3]; exact BI.Entails.refl _
  iexists d5
  isplitr
  · ipureintro; exact trivial
  · iexact H4

/-- What a run leaves: the windows' arrays as the relational data say, the rest as the region found it. -/
abbrev Post (r : PUnit × MemSt nD τ sig (Elt F)) : Prop :=
  RDat.FramePost cfg0 (fun c => (dats m 0 c).toRRel fgt (leavesAny)) (V m) r ∧ r.2.sem = fun _ => 0

set_option backward.isDefEq.respectTransparency.types false in
/-- Every run of @main ends, in a state that `Post` describes. -/
theorem run_main : θ_run defs (onTc (τ := τ) (main (F := F))) (s₀ m ρ) (Post m) :=
  RDat.θ_run_frame cfgs 0 launch0 defs₀ Variants.none (fun c => (dats m 0 c).toRRel fgt (leavesAny)) m ρ main
    (fun c => (body_obligation m c).toRRel) (fun c w => (dats m 0 c).share_full (fun _ => rfl) w) (fun _ _ => rfl)
    (V m) (hmain m Variants.none) (fun _ _ => rfl) (fun _ _ => rfl) (Post m) (fun _ h => h)

/-- A state `Post` describes has the arguments unchanged. -/
theorem args_of_post (r : PUnit × MemSt nD τ sig (Elt F)) (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h.1 c 0 rfl).trans (V_main_arg0 m c),
    ((h.1 c).2 main_arg1 (Pipeline.mem_restRefs_of main_arg1 (by decide) (by decide))).trans (V_main_arg1 m c),
    (Pipeline.RDat.FramePost.arr_in h.1 c 2 rfl).trans (V_main_arg2 m c),
    ((h.1 c).2 main_arg3 (Pipeline.mem_restRefs_of main_arg3 (by decide) (by decide))).trans (V_main_arg3 m c)⟩

end Cert.Kernel.Dense
-- ==== Proof.Tile.lean ====
module

public import proofs.«01_k».proof.Proof.Gen.KernelIdeal.Skeleton
public import Idealize.ShloMosaic.Lib.Pointwise
public import Idealize.ShloMosaic.Lib.Tactic
public import Idealize.ShloMosaic.Lib.WritesUnit

@[expose] public section

set_option maxRecDepth 16384

noncomputable section

namespace Cert.KernelIdeal.Dense

open Cert.KernelIdeal Cert.KernelIdeal.Gen
open Idealize.ShloMosaic

variable {F : FTy → Type} [FloatOps F]

/-- The place inside a chunk's 256×2048 product of the element that the output block's tile `y` holds. -/
def place (y : S128x16x8x128.Idx) : S256x2048.Idx :=
  ix2 ⟨8 * ((y 0).val % 32) + (y 2).val, by have := (y 2).isLt; have h : (y 2).val < 8 := this; omega⟩
    ⟨128 * (y 1).val + (y 3).val, by have h1 : (y 1).val < 16 := (y 1).isLt; have h3 : (y 3).val < 128 := (y 3).isLt; omega⟩

/-- A piece of chunk `k` agrees with the chunk's product `P`. -/
def TileOk (k : Fin k0_t1_loop.trips) (P : FVec F S256x2048 .f32) (p : View.Piece (Elt F) S128x16x8x128 .f32) : Prop :=
  ∀ x : p.1.shape.Idx, p.2 x = P (place (p.1.emb x)) ∧ (p.1.emb x 0).val / 32 = k.val

theorem tile_ok (k : Fin k0_t1_loop.trips) (P : FVec F S256x2048 .f32) (i j : ℕ) (hi : i < 32) (hj : j < 16)
    (off : Fin 4 → ℕ) (hoff : off = ![32 * k.val + i, j, 0, 0]) (inb) (hs) (hc) :
    TileOk k P ⟨Rect.unit (s := S128x16x8x128) off S1x1x8x128.size inb,
      shapeCast S1x1x8x128 (extractStridedSlice S8x128 ![8 * i, 128 * j] P hs) hc⟩ := by
  subst hoff
  intro x
  have hx : ∃ (c : Fin 8) (d : Fin 128), x = ix4 (0 : Fin 1) (0 : Fin 1) c d := by
    refine ⟨x 2, x 3, ?_⟩
    refine (eq_ix4 (n0 := 1) (n1 := 1) (n2 := 8) (n3 := 128) x).trans ?_
    congr 1 <;> exact Subsingleton.elim _ _
  obtain ⟨c, d, rfl⟩ := hx
  have hk : k.val < 4 := Nat.lt_of_lt_of_le k.isLt k0_t1_abs.2.1
  have h0 : ((Rect.unit (s := S128x16x8x128) ![32 * k.val + i, j, 0, 0] S1x1x8x128.size inb).emb (ix4 (0 : Fin 1) (0 : Fin 1) c d) 0).val = 32 * k.val + i := rfl
  have h1 : ((Rect.unit (s := S128x16x8x128) ![32 * k.val + i, j, 0, 0] S1x1x8x128.size inb).emb (ix4 (0 : Fin 1) (0 : Fin 1) c d) 1).val = j := rfl
  have h2 : ((Rect.unit (s := S128x16x8x128) ![32 * k.val + i, j, 0, 0] S1x1x8x128.size inb).emb (ix4 (0 : Fin 1) (0 : Fin 1) c d) 2).val = 0 + 1 * c.val := rfl
  have h3 : ((Rect.unit (s := S128x16x8x128) ![32 * k.val + i, j, 0, 0] S1x1x8x128.size inb).emb (ix4 (0 : Fin 1) (0 : Fin 1) c d) 3).val = 0 + 1 * d.val := rfl
  constructor
  · have e : place ((Rect.unit (s := S128x16x8x128) ![32 * k.val + i, j, 0, 0] S1x1x8x128.size inb).emb (ix4 (0 : Fin 1) (0 : Fin 1) c d))
        = ix2 ⟨8 * i + c.val, by have := c.isLt; omega⟩ ⟨128 * j + d.val, by have := d.isLt; omega⟩ := by
      unfold place
      congr 1 <;> apply Fin.ext <;> dsimp only
      · rw [h0, h2]; omega
      · rw [h1, h3]; omega
    dsimp only
    rw [e]
    pointwise
  · dsimp only
    rw [h0]; omega

theorem off3_eq (k : Fin k0_t1_loop.trips) (i : ℕ) (hi : i < 32) : k0_off3 k (BitVec.ofNat 32 i) = ![32 * k.val + i, 0, 0, 0] := by
  revert k i; decide +kernel

theorem off4_eq (k : Fin k0_t1_loop.trips) (i : ℕ) (hi : i < 32) : k0_off4 k (BitVec.ofNat 32 i) = ![32 * k.val + i, 1, 0, 0] := by
  revert k i; decide +kernel

theorem off5_eq (k : Fin k0_t1_loop.trips) (i : ℕ) (hi : i < 32) : k0_off5 k (BitVec.ofNat 32 i) = ![32 * k.val + i, 2, 0, 0] := by
  revert k i; decide +kernel

theorem off6_eq (k : Fin k0_t1_loop.trips) (i : ℕ) (hi : i < 32) : k0_off6 k (BitVec.ofNat 32 i) = ![32 * k.val + i, 3, 0, 0] := by
  revert k i; decide +kernel

theorem off7_eq (k : Fin k0_t1_loop.trips) (i : ℕ) (hi : i < 32) : k0_off7 k (BitVec.ofNat 32 i) = ![32 * k.val + i, 4, 0, 0] := by
  revert k i; decide +kernel

theorem off8_eq (k : Fin k0_t1_loop.trips) (i : ℕ) (hi : i < 32) : k0_off8 k (BitVec.ofNat 32 i) = ![32 * k.val + i, 5, 0, 0] := by
  revert k i; decide +kernel

theorem off9_eq (k : Fin k0_t1_loop.trips) (i : ℕ) (hi : i < 32) : k0_off9 k (BitVec.ofNat 32 i) = ![32 * k.val + i, 6, 0, 0] := by
  revert k i; decide +kernel

theorem off10_eq (k : Fin k0_t1_loop.trips) (i : ℕ) (hi : i < 32) : k0_off10 k (BitVec.ofNat 32 i) = ![32 * k.val + i, 7, 0, 0] := by
  revert k i; decide +kernel

theorem off11_eq (k : Fin k0_t1_loop.trips) (i : ℕ) (hi : i < 32) : k0_off11 k (BitVec.ofNat 32 i) = ![32 * k.val + i, 8, 0, 0] := by
  revert k i; decide +kernel

theorem off12_eq (k : Fin k0_t1_loop.trips) (i : ℕ) (hi : i < 32) : k0_off12 k (BitVec.ofNat 32 i) = ![32 * k.val + i, 9, 0, 0] := by
  revert k i; decide +kernel

theorem off13_eq (k : Fin k0_t1_loop.trips) (i : ℕ) (hi : i < 32) : k0_off13 k (BitVec.ofNat 32 i) = ![32 * k.val + i, 10, 0, 0] := by
  revert k i; decide +kernel

theorem off14_eq (k : Fin k0_t1_loop.trips) (i : ℕ) (hi : i < 32) : k0_off14 k (BitVec.ofNat 32 i) = ![32 * k.val + i, 11, 0, 0] := by
  revert k i; decide +kernel

theorem off15_eq (k : Fin k0_t1_loop.trips) (i : ℕ) (hi : i < 32) : k0_off15 k (BitVec.ofNat 32 i) = ![32 * k.val + i, 12, 0, 0] := by
  revert k i; decide +kernel

theorem off16_eq (k : Fin k0_t1_loop.trips) (i : ℕ) (hi : i < 32) : k0_off16 k (BitVec.ofNat 32 i) = ![32 * k.val + i, 13, 0, 0] := by
  revert k i; decide +kernel

theorem off17_eq (k : Fin k0_t1_loop.trips) (i : ℕ) (hi : i < 32) : k0_off17 k (BitVec.ofNat 32 i) = ![32 * k.val + i, 14, 0, 0] := by
  revert k i; decide +kernel

theorem off18_eq (k : Fin k0_t1_loop.trips) (i : ℕ) (hi : i < 32) : k0_off18 k (BitVec.ofNat 32 i) = ![32 * k.val + i, 15, 0, 0] := by
  revert k i; decide +kernel

theorem slices_tile (i j : ℕ) (hi : i < 32) (hj : j < 16) : S256x2048.Slices ![8 * i, 128 * j] S8x128 := by
  have h : ∀ (i : Fin 32) (j : Fin 16), S256x2048.Slices ![8 * i.val, 128 * j.val] S8x128 := by decide +kernel
  exact h ⟨i, hi⟩ ⟨j, hj⟩

theorem tile0 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off3 k (BitVec.ofNat 32 i)) S1x1x8x128.size inb,
      shapeCast S1x1x8x128 (extractStridedSlice S8x128 ![8 * i, 128 * 0] P (slices_tile i 0 hi (by decide))) shapeCasts_S8x128_S1x1x8x128⟩ :: l, TileOk k P q :=
  List.forall_mem_cons.2 ⟨tile_ok k P i 0 hi (by decide) _ (off3_eq k i hi) inb _ _, hl⟩

theorem tile1 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off4 k (BitVec.ofNat 32 i)) S1x1x8x128.size inb,
      shapeCast S1x1x8x128 (extractStridedSlice S8x128 ![8 * i, 128 * 1] P (slices_tile i 1 hi (by decide))) shapeCasts_S8x128_S1x1x8x128⟩ :: l, TileOk k P q :=
  List.forall_mem_cons.2 ⟨tile_ok k P i 1 hi (by decide) _ (off4_eq k i hi) inb _ _, hl⟩

theorem tile2 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off5 k (BitVec.ofNat 32 i)) S1x1x8x128.size inb,
      shapeCast S1x1x8x128 (extractStridedSlice S8x128 ![8 * i, 128 * 2] P (slices_tile i 2 hi (by decide))) shapeCasts_S8x128_S1x1x8x128⟩ :: l, TileOk k P q :=
  List.forall_mem_cons.2 ⟨tile_ok k P i 2 hi (by decide) _ (off5_eq k i hi) inb _ _, hl⟩

theorem tile3 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off6 k (BitVec.ofNat 32 i)) S1x1x8x128.size inb,
      shapeCast S1x1x8x128 (extractStridedSlice S8x128 ![8 * i, 128 * 3] P (slices_tile i 3 hi (by decide))) shapeCasts_S8x128_S1x1x8x128⟩ :: l, TileOk k P q :=
  List.forall_mem_cons.2 ⟨tile_ok k P i 3 hi (by decide) _ (off6_eq k i hi) inb _ _, hl⟩

theorem tile4 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off7 k (BitVec.ofNat 32 i)) S1x1x8x128.size inb,
      shapeCast S1x1x8x128 (extractStridedSlice S8x128 ![8 * i, 128 * 4] P (slices_tile i 4 hi (by decide))) shapeCasts_S8x128_S1x1x8x128⟩ :: l, TileOk k P q :=
  List.forall_mem_cons.2 ⟨tile_ok k P i 4 hi (by decide) _ (off7_eq k i hi) inb _ _, hl⟩

theorem tile5 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off8 k (BitVec.ofNat 32 i)) S1x1x8x128.size inb,
      shapeCast S1x1x8x128 (extractStridedSlice S8x128 ![8 * i, 128 * 5] P (slices_tile i 5 hi (by decide))) shapeCasts_S8x128_S1x1x8x128⟩ :: l, TileOk k P q :=
  List.forall_mem_cons.2 ⟨tile_ok k P i 5 hi (by decide) _ (off8_eq k i hi) inb _ _, hl⟩

theorem tile6 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off9 k (BitVec.ofNat 32 i)) S1x1x8x128.size inb,
      shapeCast S1x1x8x128 (extractStridedSlice S8x128 ![8 * i, 128 * 6] P (slices_tile i 6 hi (by decide))) shapeCasts_S8x128_S1x1x8x128⟩ :: l, TileOk k P q :=
  List.forall_mem_cons.2 ⟨tile_ok k P i 6 hi (by decide) _ (off9_eq k i hi) inb _ _, hl⟩

theorem tile7 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off10 k (BitVec.ofNat 32 i)) S1x1x8x128.size inb,
      shapeCast S1x1x8x128 (extractStridedSlice S8x128 ![8 * i, 128 * 7] P (slices_tile i 7 hi (by decide))) shapeCasts_S8x128_S1x1x8x128⟩ :: l, TileOk k P q :=
  List.forall_mem_cons.2 ⟨tile_ok k P i 7 hi (by decide) _ (off10_eq k i hi) inb _ _, hl⟩

theorem tile8 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off11 k (BitVec.ofNat 32 i)) S1x1x8x128.size inb,
      shapeCast S1x1x8x128 (extractStridedSlice S8x128 ![8 * i, 128 * 8] P (slices_tile i 8 hi (by decide))) shapeCasts_S8x128_S1x1x8x128⟩ :: l, TileOk k P q :=
  List.forall_mem_cons.2 ⟨tile_ok k P i 8 hi (by decide) _ (off11_eq k i hi) inb _ _, hl⟩

theorem tile9 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off12 k (BitVec.ofNat 32 i)) S1x1x8x128.size inb,
      shapeCast S1x1x8x128 (extractStridedSlice S8x128 ![8 * i, 128 * 9] P (slices_tile i 9 hi (by decide))) shapeCasts_S8x128_S1x1x8x128⟩ :: l, TileOk k P q :=
  List.forall_mem_cons.2 ⟨tile_ok k P i 9 hi (by decide) _ (off12_eq k i hi) inb _ _, hl⟩

theorem tile10 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off13 k (BitVec.ofNat 32 i)) S1x1x8x128.size inb,
      shapeCast S1x1x8x128 (extractStridedSlice S8x128 ![8 * i, 128 * 10] P (slices_tile i 10 hi (by decide))) shapeCasts_S8x128_S1x1x8x128⟩ :: l, TileOk k P q :=
  List.forall_mem_cons.2 ⟨tile_ok k P i 10 hi (by decide) _ (off13_eq k i hi) inb _ _, hl⟩

theorem tile11 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off14 k (BitVec.ofNat 32 i)) S1x1x8x128.size inb,
      shapeCast S1x1x8x128 (extractStridedSlice S8x128 ![8 * i, 128 * 11] P (slices_tile i 11 hi (by decide))) shapeCasts_S8x128_S1x1x8x128⟩ :: l, TileOk k P q :=
  List.forall_mem_cons.2 ⟨tile_ok k P i 11 hi (by decide) _ (off14_eq k i hi) inb _ _, hl⟩

theorem tile12 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off15 k (BitVec.ofNat 32 i)) S1x1x8x128.size inb,
      shapeCast S1x1x8x128 (extractStridedSlice S8x128 ![8 * i, 128 * 12] P (slices_tile i 12 hi (by decide))) shapeCasts_S8x128_S1x1x8x128⟩ :: l, TileOk k P q :=
  List.forall_mem_cons.2 ⟨tile_ok k P i 12 hi (by decide) _ (off15_eq k i hi) inb _ _, hl⟩

theorem tile13 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off16 k (BitVec.ofNat 32 i)) S1x1x8x128.size inb,
      shapeCast S1x1x8x128 (extractStridedSlice S8x128 ![8 * i, 128 * 13] P (slices_tile i 13 hi (by decide))) shapeCasts_S8x128_S1x1x8x128⟩ :: l, TileOk k P q :=
  List.forall_mem_cons.2 ⟨tile_ok k P i 13 hi (by decide) _ (off16_eq k i hi) inb _ _, hl⟩

theorem tile14 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off17 k (BitVec.ofNat 32 i)) S1x1x8x128.size inb,
      shapeCast S1x1x8x128 (extractStridedSlice S8x128 ![8 * i, 128 * 14] P (slices_tile i 14 hi (by decide))) shapeCasts_S8x128_S1x1x8x128⟩ :: l, TileOk k P q :=
  List.forall_mem_cons.2 ⟨tile_ok k P i 14 hi (by decide) _ (off17_eq k i hi) inb _ _, hl⟩

theorem tile15 {k : Fin k0_t1_loop.trips} {P : FVec F S256x2048 .f32} {i : ℕ} {inb} {l : List (View.Piece (Elt F) S128x16x8x128 .f32)}
    (hi : i < 32) (hl : ∀ q ∈ l, TileOk k P q) :
    ∀ q ∈ ⟨Rect.unit (s := S128x16x8x128) (k0_off18 k (BitVec.ofNat 32 i)) S1x1x8x128.size inb,
      shapeCast S1x1x8x128 (extractStridedSlice S8x128 ![8 * i, 128 * 15] P (slices_tile i 15 hi (by decide))) shapeCasts_S8x128_S1x1x8x128⟩ :: l, TileOk k P q :=
  List.forall_mem_cons.2 ⟨tile_ok k P i 15 hi (by decide) _ (off18_eq k i hi) inb _ _, hl⟩

end Cert.KernelIdeal.Dense
-- ==== Proof.Body.lean ====
module

public import proofs.«01_k».proof.Proof.Gen.KernelIdeal.Loops
public import proofs.«01_k».proof.Proof.Tile
public import Idealize.ShloMosaic.Lib.Ring
public import Idealize.ShloMosaic.Lib.VecWindow
public import Idealize.ShloMosaic.Lib.Pipeline.FrameBody

@[expose] public section

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scaled product of the `k`-th chunk of 256 rows with the block of 2048 columns: what one trip of the loop
    computes. -/
def prodAt (x3 : Vec F S2048x128 .fp8e4m3) (x4 : Vec F S1x2048 .f32) (x1 : Vec F S1024x128 .fp8e4m3) (x2 : Vec F S1024x1 .f32)
    (k : Fin k0_t1_loop.trips) : FVec F S256x2048 .f32 :=
  k0_pay3 x3 (k0_pay1 x4)
    (View.ld (Val := Elt F) (e' := .fp8e4m3) x1 (Rect.unit (s := S1024x128) (k0_off1 k) S256x128.size (k0_off1_inb k)))
    (View.ld (Val := Elt F) (e' := .f32) x2 (Rect.unit (s := S1024x1) (k0_off2 k) S256x1.size (k0_off2_inb k)))

/-- Every piece one trip stores is a tile of the chunk's scaled product. -/
theorem trip_tiles (𝒱 : Variants) (c : Dev nD) (bd : Option 𝒱.V) (i : grid0.Coords) (arg1 : Memref sig .tc .vmem S1024x128 .fp8e4m3) (harg1 : arg1.IsWhole) (arg2 : Memref sig .tc .vmem S1024x1 .f32) (harg2 : arg2.IsWhole) (arg3 : Memref sig .tc .vmem S2048x128 .fp8e4m3) (harg3 : arg3.IsWhole) (arg4 : Memref sig .tc .vmem S1x2048 .f32) (harg4 : arg4.IsWhole) (arg5 : Memref sig .tc .vmem S128x16x8x128 .f32) (harg5 : arg5.IsWhole) (v0 : Vec F S2048x128 .fp8e4m3) (v1 : Vec F S1x2048 .f32) (X_arg1 : BufTy.Contents (Elt F) arg1.view.ty) (X_arg2 : BufTy.Contents (Elt F) arg2.view.ty) (k : Fin k0_t1_loop.trips) :
    ∀ p ∈ tripL_k0_t1 (F := F) 𝒱 c bd i arg1 harg1 arg2 harg2 arg3 harg3 arg4 harg4 arg5 harg5 v0 v1 X_arg1 X_arg2 k,
      TileOk k (prodAt v0 v1 (arg1.view.read (Elt F) X_arg1) (arg2.view.read (Elt F) X_arg2) k) p := by
  change ∀ p ∈ tripL_k0_t1 (F := F) 𝒱 c bd i arg1 harg1 arg2 harg2 arg3 harg3 arg4 harg4 arg5 harg5 v0 v1 X_arg1 X_arg2 k, TileOk k (trip_k0_t1.sl.r arg1 arg2 v0 v1 X_arg1 X_arg2 k) p
  unfold tripL_k0_t1 trip_k0_t1
  dsimp only
  iterate 31
    refine tile15 (F := F) ?_ ?_
    · decide
    refine tile14 (F := F) ?_ ?_
    · decide
    refine tile13 (F := F) ?_ ?_
    · decide
    refine tile12 (F := F) ?_ ?_
    · decide
    refine tile11 (F := F) ?_ ?_
    · decide
    refine tile10 (F := F) ?_ ?_
    · decide
    refine tile9 (F := F) ?_ ?_
    · decide
    refine tile8 (F := F) ?_ ?_
    · decide
    refine tile7 (F := F) ?_ ?_
    · decide
    refine tile6 (F := F) ?_ ?_
    · decide
    refine tile5 (F := F) ?_ ?_
    · decide
    refine tile4 (F := F) ?_ ?_
    · decide
    refine tile3 (F := F) ?_ ?_
    · decide
    refine tile2 (F := F) ?_ ?_
    · decide
    refine tile1 (F := F) ?_ ?_
    · decide
    refine tile0 (F := F) ?_ ?_
    · decide
  refine tile15 (F := F) (i := 0) (P := trip_k0_t1.sl.r arg1 arg2 v0 v1 X_arg1 X_arg2 k) (by decide) ?_
  refine tile14 (F := F) (i := 0) (P := trip_k0_t1.sl.r arg1 arg2 v0 v1 X_arg1 X_arg2 k) (by decide) ?_
  refine tile13 (F := F) (i := 0) (P := trip_k0_t1.sl.r arg1 arg2 v0 v1 X_arg1 X_arg2 k) (by decide) ?_
  refine tile12 (F := F) (i := 0) (P := trip_k0_t1.sl.r arg1 arg2 v0 v1 X_arg1 X_arg2 k) (by decide) ?_
  refine tile11 (F := F) (i := 0) (P := trip_k0_t1.sl.r arg1 arg2 v0 v1 X_arg1 X_arg2 k) (by decide) ?_
  refine tile10 (F := F) (i := 0) (P := trip_k0_t1.sl.r arg1 arg2 v0 v1 X_arg1 X_arg2 k) (by decide) ?_
  refine tile9 (F := F) (i := 0) (P := trip_k0_t1.sl.r arg1 arg2 v0 v1 X_arg1 X_arg2 k) (by decide) ?_
  refine tile8 (F := F) (i := 0) (P := trip_k0_t1.sl.r arg1 arg2 v0 v1 X_arg1 X_arg2 k) (by decide) ?_
  refine tile7 (F := F) (i := 0) (P := trip_k0_t1.sl.r arg1 arg2 v0 v1 X_arg1 X_arg2 k) (by decide) ?_
  refine tile6 (F := F) (i := 0) (P := trip_k0_t1.sl.r arg1 arg2 v0 v1 X_arg1 X_arg2 k) (by decide) ?_
  refine tile5 (F := F) (i := 0) (P := trip_k0_t1.sl.r arg1 arg2 v0 v1 X_arg1 X_arg2 k) (by decide) ?_
  refine tile4 (F := F) (i := 0) (P := trip_k0_t1.sl.r arg1 arg2 v0 v1 X_arg1 X_arg2 k) (by decide) ?_
  refine tile3 (F := F) (i := 0) (P := trip_k0_t1.sl.r arg1 arg2 v0 v1 X_arg1 X_arg2 k) (by decide) ?_
  refine tile2 (F := F) (i := 0) (P := trip_k0_t1.sl.r arg1 arg2 v0 v1 X_arg1 X_arg2 k) (by decide) ?_
  refine tile1 (F := F) (i := 0) (P := trip_k0_t1.sl.r arg1 arg2 v0 v1 X_arg1 X_arg2 k) (by decide) ?_
  refine tile0 (F := F) (i := 0) (P := trip_k0_t1.sl.r arg1 arg2 v0 v1 X_arg1 X_arg2 k) (by decide) ?_
  exact List.forall_mem_nil _

/-- The chunk of rows an output block's place is in. -/
def chunkOf (y : S128x16x8x128.Idx) : Fin k0_t1_loop.trips :=
  ⟨(y 0).val / 32, by have h : (y 0).val < 128 := (y 0).isLt; have e : k0_t1_loop.trips = 4 := by decide +kernel
                      rw [e]; omega⟩

/-- What the loop leaves in the output block: at each place the scaled product of its chunk. -/
def outV (x3 : Vec F S2048x128 .fp8e4m3) (x4 : Vec F S1x2048 .f32) (x1 : Vec F S1024x128 .fp8e4m3) (x2 : Vec F S1024x1 .f32) :
    Vec F S128x16x8x128 .f32 :=
  fun y => prodAt x3 x4 x1 x2 (chunkOf y) (place y)

/-- A piece of any chunk agrees with the block's contents. -/
theorem tile_outV {x3 : Vec F S2048x128 .fp8e4m3} {x4 : Vec F S1x2048 .f32} {x1 : Vec F S1024x128 .fp8e4m3} {x2 : Vec F S1024x1 .f32}
    {k : Fin k0_t1_loop.trips} {p : View.Piece (Elt F) S128x16x8x128 .f32} (h : TileOk k (prodAt x3 x4 x1 x2 k) p) (x : p.1.shape.Idx) :
    p.2 x = outV x3 x4 x1 x2 (p.1.emb x) := by
  have e : chunkOf (p.1.emb x) = k := Fin.ext (h x).2
  unfold outV
  rw [e]; exact (h x).1

/-- So do all the pieces of the trips before `n`. -/
theorem pieces_outV (𝒱 : Variants) (c : Dev nD) (bd : Option 𝒱.V) (i : grid0.Coords) (arg1 : Memref sig .tc .vmem S1024x128 .fp8e4m3) (harg1 : arg1.IsWhole) (arg2 : Memref sig .tc .vmem S1024x1 .f32) (harg2 : arg2.IsWhole) (arg3 : Memref sig .tc .vmem S2048x128 .fp8e4m3) (harg3 : arg3.IsWhole) (arg4 : Memref sig .tc .vmem S1x2048 .f32) (harg4 : arg4.IsWhole) (arg5 : Memref sig .tc .vmem S128x16x8x128 .f32) (harg5 : arg5.IsWhole) (v0 : Vec F S2048x128 .fp8e4m3) (v1 : Vec F S1x2048 .f32) (X_arg1 : BufTy.Contents (Elt F) arg1.view.ty) (X_arg2 : BufTy.Contents (Elt F) arg2.view.ty) :
    ∀ n ≤ k0_t1_loop.trips, ∀ p ∈ pb_k0_t1 (F := F) 𝒱 c bd i arg1 harg1 arg2 harg2 arg3 harg3 arg4 harg4 arg5 harg5 v0 v1 X_arg1 X_arg2 n, ∀ x : p.1.shape.Idx,
      p.2 x = outV v0 v1 (arg1.view.read (Elt F) X_arg1) (arg2.view.read (Elt F) X_arg2) (p.1.emb x)
  | 0, _ => fun p hp => absurd hp (by rw [pb_k0_t1.eq_1]; exact List.not_mem_nil)
  | n + 1, hn => fun p hp x => by
    rw [pb_k0_t1_succ (F := F) 𝒱 c bd i arg1 harg1 arg2 harg2 arg3 harg3 arg4 harg4 arg5 harg5 v0 v1 X_arg1 X_arg2 ⟨n, hn⟩] at hp
    rcases List.mem_append.mp hp with hp | hp
    · exact tile_outV (trip_tiles 𝒱 c bd i arg1 harg1 arg2 harg2 arg3 harg3 arg4 harg4 arg5 harg5 v0 v1 X_arg1 X_arg2 ⟨n, hn⟩ p hp) x
    · exact pieces_outV 𝒱 c bd i arg1 harg1 arg2 harg2 arg3 harg3 arg4 harg4 arg5 harg5 v0 v1 X_arg1 X_arg2 n (Nat.le_of_lt hn) p hp x

/-- The pieces of all the trips fill the output block. -/
theorem pieces_cover (𝒱 : Variants) (c : Dev nD) (bd : Option 𝒱.V) (i : grid0.Coords) (arg1 : Memref sig .tc .vmem S1024x128 .fp8e4m3) (harg1 : arg1.IsWhole) (arg2 : Memref sig .tc .vmem S1024x1 .f32) (harg2 : arg2.IsWhole) (arg3 : Memref sig .tc .vmem S2048x128 .fp8e4m3) (harg3 : arg3.IsWhole) (arg4 : Memref sig .tc .vmem S1x2048 .f32) (harg4 : arg4.IsWhole) (arg5 : Memref sig .tc .vmem S128x16x8x128 .f32) (harg5 : arg5.IsWhole) (v0 : Vec F S2048x128 .fp8e4m3) (v1 : Vec F S1x2048 .f32) (X_arg1 : BufTy.Contents (Elt F) arg1.view.ty) (X_arg2 : BufTy.Contents (Elt F) arg2.view.ty) (y : S128x16x8x128.Idx) :
    ∃ p ∈ pb_k0_t1 (F := F) 𝒱 c bd i arg1 harg1 arg2 harg2 arg3 harg3 arg4 harg4 arg5 harg5 v0 v1 X_arg1 X_arg2 k0_t1_loop.trips, y ∈ p.1.set := by
  refine View.cover_of_tiledL (s := S128x16x8x128) _ S1x1x8x128.size ?_ y
  sl_kernel_rfl

/-- ONE POINT OF THE GRID: from the four input blocks and an output buffer of any contents the body leaves the inputs
    as they are and the output buffer at `outV`. -/
theorem sound_body (c : Dev nD) (E : Set ℕ) (i : grid0.Coords) (arg1 : Memref sig .tc .vmem S1024x128 .fp8e4m3) (harg1 : arg1.IsWhole) (arg2 : Memref sig .tc .vmem S1024x1 .f32) (harg2 : arg2.IsWhole) (arg3 : Memref sig .tc .vmem S2048x128 .fp8e4m3) (harg3 : arg3.IsWhole) (arg4 : Memref sig .tc .vmem S1x2048 .f32) (harg4 : arg4.IsWhole) (arg5 : Memref sig .tc .vmem S128x16x8x128 .f32) (harg5 : arg5.IsWhole)
    (x1 : Vec F S1024x128 .fp8e4m3) (x2 : Vec F S1024x1 .f32) (x3 : Vec F S2048x128 .fp8e4m3) (x4 : Vec F S1x2048 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (outV x3 x4 x1 x2)) -∗ K ⟨⟩))
      ⊢ wp frame (wpE (defs₀ (F := F)) Variants.none c none) E (cc0_dense i arg1 harg1 arg2 harg2 arg3 harg3 arg4 harg4 arg5 harg5) K := by
  simp only [cc0_dense_eq_skeleton]; unfold cc0_dense_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.readAt_full, View.readAt_full]
  funext y
  exact View.read_writes_apply_of_pieces _ _ _ _ (pieces_outV Variants.none c none i arg1 harg1 arg2 harg2 arg3 harg3 arg4 harg4
    arg5 harg5 _ _ f1 f2 _ (le_refl _)) y (pieces_cover Variants.none c none i arg1 harg1 arg2 harg2 arg3 harg3 arg4 harg4 arg5 harg5 _ _ f1 f2 y)

end Cert.KernelIdeal.Dense
-- ==== Proof.Run.lean ====
module

public import proofs.«01_k».proof.Proof.Body
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `b` at a point, as its staging buffer holds it: past the end of the array the buffer keeps `d`. -/
def bcols (c : Dev nD) (t : Fin cfg0.N) (d : Vec F S2048x128 .fp8e4m3) : Vec F S2048x128 .fp8e4m3 :=
  win0_2.fill (grid0.coords t) d (iblk m c 2 t)
/-- The block of the scales of `b` likewise. -/
def bscales (c : Dev nD) (t : Fin cfg0.N) (d : Vec F S1x2048 .f32) : Vec F S1x2048 .f32 :=
  win0_3.fill (grid0.coords t) d (iblk m c 3 t)
/-- What the body leaves in the output buffer at a point, of what the two buffers keep past the end of their arrays. -/
def outAt (c : Dev nD) (t : Fin cfg0.N) (d2 : Vec F S2048x128 .fp8e4m3) (d3 : Vec F S1x2048 .f32) : Vec F S128x16x8x128 .f32 :=
  outV (bcols m c t d2) (bscales m c t d3) (iblk m c 0 t) (iblk m c 1 t)

/-- The proof data of the pipeline: the inputs' buffers at their blocks; the output's is stated by `leavesOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => bcols m c t (fun _ => Scalar.ofBits .fp8e4m3 0#8)
    | ⟨3, _⟩ => bscales m c t (fun _ => Scalar.ofBits .f32 0#32)
    | ⟨4, _⟩ => fun _ => Scalar.ofBits .f32 0#32
  Φ _ := Pipeline.ΦA spec0 c
  q _ := fullShare
  owed _ := 0

/-- The output window is held to a predicate in place of contents. -/
def fgt : Fin cfg0.W → Bool := fun w => match w with
  | ⟨4, _⟩ => true
  | _ => false

/-- The output buffer leaves the body at `outAt`, of some contents of the two cut buffers past their arrays' ends. -/
def leavesOut (c : Dev nD) : (w : Fin cfg0.W) → Fin cfg0.N → ((cfg0.win w).block.Idx → Elt F (cfg0.win w).elt) → Prop :=
  fun w t => match w with
  | ⟨4, _⟩ => fun X => ∃ d2 d3, X = outAt m c t d2 d3
  | _ => fun _ => True

theorem before_0 (c : Dev nD) (t : Fin cfg0.N) (d) : (dats m 0 c).before (0 : Fin 5) t d = iblk m c 0 t :=
  before0_0_of m _ rfl (fun _ => rfl) t d
theorem before_1 (c : Dev nD) (t : Fin cfg0.N) (d) : (dats m 0 c).before (1 : Fin 5) t d = iblk m c 1 t :=
  before0_1_of m _ rfl (fun _ => rfl) t d
theorem before_2 (c : Dev nD) (t : Fin cfg0.N) (d) : (dats m 0 c).before (2 : Fin 5) t d = bcols m c t d := by
  unfold Dat.before; rw [if_pos (fetch0_2 t)]; rfl
theorem before_3 (c : Dev nD) (t : Fin cfg0.N) (d) : (dats m 0 c).before (3 : Fin 5) t d = bscales m c t d := by
  unfold Dat.before; rw [if_pos (fetch0_3 t)]; rfl

/-- The body obligation: the four inputs arrive at their blocks and leave so; the output buffer arrives at anything
    and leaves at `outAt`. -/
theorem body_obligation (c : Dev nD) :
    BodyObligationRel (dats m 0 c) (defs₀ (F := F)) Variants.none () Set.univ fgt (leavesOut m c) := fun t => by
  rw [bigSep_W0, bigSep_W0]
  simp only [show fgt 0 = false from rfl, show fgt 1 = false from rfl, show fgt 2 = false from rfl, show fgt 3 = false from rfl,
    show fgt 4 = true from rfl]
  rw [show (dats m 0 c).Φ t.succ = (dats m 0 c).Φ t.castSucc from rfl,
    show (dats m 0 c).owesAt () t.succ = (dats m 0 c).owesAt () t.castSucc from rfl]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%d4, -, H4⟩⟩
  rw [before_0 m c t d0, before_1 m c t d1, before_2 m c t d2, before_3 m c t d3]
  iapply (sound_body (F := F) c Set.univ (grid0.coords t) _ _ _ _ _ _ _ _ _ _
    (iblk m c 0 t) (iblk m c 1 t) (bcols m c t d2) (bscales m c t d3) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  have h2 : win0_2.cut (grid0.coords t) (bcols m c t (fun _ => Scalar.ofBits .fp8e4m3 0#8)) = iblk m c 2 t := win0_2.cut_fill _ _ _
  have h3 : win0_3.cut (grid0.coords t) (bscales m c t (fun _ => Scalar.ofBits .f32 0#32)) = iblk m c 3 t := win0_3.cut_fill _ _ _
  isplitl [H0]; · iexact H0
  isplitl [H1]; · iexact H1
  isplitl [H2]
  · iexists d2
    change _ ⊢ owns (c : Thread nD τ) (stage0_2 (cfg0.slots t 2)) fullShare (win0_2.fill (grid0.coords t) d2 (win0_2.cut (grid0.coords t) (bcols m c t (fun _ => Scalar.ofBits .fp8e4m3 0#8))))
    rw [h2]; exact BI.Entails.refl _
  isplitl [H3]
  · iexists d3
    change _ ⊢ owns (c : Thread nD τ) (stage0_3 (cfg0.slots t 3)) fullShare (win0_3.fill (grid0.coords t) d3 (win0_3.cut (grid0.coords t) (bscales m c t (fun _ => Scalar.ofBits .f32 0#32))))
    rw [h3]; exact BI.Entails.refl _
  iexists (outAt m c t d2 d3)
  isplitr
  · ipureintro; exact ⟨d2, d3, rfl⟩
  · iexact H4

/-- What a run leaves: the windows' arrays as the relational data say, the rest as the region found it. -/
abbrev Post (r : PUnit × MemSt nD τ sig (Elt F)) : Prop :=
  RDat.FramePost cfg0 (fun c => (dats m 0 c).toRRel fgt (leavesOut m c)) (V m) r ∧ r.2.sem = fun _ => 0

set_option backward.isDefEq.respectTransparency.types false in
/-- Every run of @main ends, in a state that `Post` describes. -/
theorem run_main : θ_run defs (onTc (τ := τ) (main (F := F))) (s₀ m ρ) (Post m) :=
  RDat.θ_run_frame cfgs 0 launch0 defs₀ Variants.none (fun c => (dats m 0 c).toRRel fgt (leavesOut m c)) m ρ main
    (fun c => (body_obligation m c).toRRel) (fun c w => (dats m 0 c).share_full (fun _ => rfl) w) (fun _ _ => rfl)
    (V m) (hmain m Variants.none) (fun _ _ => rfl) (fun _ _ => rfl) (Post m) (fun _ h => h)

/-- A state `Post` describes has the arguments unchanged. -/
theorem args_of_post (r : PUnit × MemSt nD τ sig (Elt F)) (h : Post m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h.1 c 0 rfl).trans (V_main_arg0 m c),
    ((h.1 c).2 main_arg1 (Pipeline.mem_restRefs_of main_arg1 (by decide) (by decide))).trans (V_main_arg1 m c),
    (Pipeline.RDat.FramePost.arr_in h.1 c 2 rfl).trans (V_main_arg2 m c),
    ((h.1 c).2 main_arg3 (Pipeline.mem_restRefs_of main_arg3 (by decide) (by decide))).trans (V_main_arg3 m c)⟩

end Cert.KernelIdeal.Dense
-- ==== Proof.Scaled.lean ====
module

public import Idealize.ShloMosaic.Lib.Pointwise
public import Idealize.ShloMosaic.Lib.ValueIdx

@[expose] public section

noncomputable section

namespace Cert

open Idealize.ShloMosaic

/-- The scaled product of row `r` of `a` and row `q` of `b`, over the extended reals: the products of the codes summed,
    times the two rows' scales, times the constant. -/
def scaled (a : Vec Ideal ⟨2, ![1024, 128]⟩ .fp8e4m3) (sa : Vec Ideal ⟨1, ![1024]⟩ .f32) (b : Vec Ideal ⟨2, ![200000, 128]⟩ .fp8e4m3)
    (sb : Vec Ideal ⟨1, ![200000]⟩ .f32) (r : Fin 1024) (q : Fin 200000) : EReal :=
  (∑ x : Fin 128, a (ix2 r x) * b (ix2 q x)) * (sa (ix1 r) * sb (ix1 q)) * Ideal.ofBits .f32 0x3DB504F3#32

/-- The row of `a` that belongs to an element of the result. -/
def rowOf (i : Shape.Idx ⟨4, ![128, 1563, 8, 128]⟩) : Fin 1024 :=
  ⟨8 * (i 0).val + (i 2).val, by have h0 : (i 0).val < 128 := (i 0).isLt; have h2 : (i 2).val < 8 := (i 2).isLt; omega⟩

/-- The scaled product that belongs to an element of the result; zero past the last row of `b`. -/
def wanted (a : Vec Ideal ⟨2, ![1024, 128]⟩ .fp8e4m3) (sa : Vec Ideal ⟨1, ![1024]⟩ .f32) (b : Vec Ideal ⟨2, ![200000, 128]⟩ .fp8e4m3)
    (sb : Vec Ideal ⟨1, ![200000]⟩ .f32) (i : Shape.Idx ⟨4, ![128, 1563, 8, 128]⟩) : EReal :=
  if hi : 128 * (i 1).val + (i 3).val < 200000 then scaled a sa b sb (rowOf i) ⟨128 * (i 1).val + (i 3).val, hi⟩ else 0

end Cert
-- ==== Proof.Value.lean ====
module

public import proofs.«01_k».proof.Proof.Run
public import Idealize.ShloMosaic.Lib.Pipeline.ValueKit
public import proofs.«01_k».proof.Proof.Scaled
public import Idealize.ShloMosaic.Lib.Pointwise

@[expose] public section

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA
open Idealize.ShloMosaic.Pipeline (Dat RDat Cfg Window)

/-- Where chunk `k` starts in `a`. -/
theorem off1_eq (k : Fin k0_t1_loop.trips) : k0_off1 k = ![256 * k.val, 0] := by
  revert k; decide +kernel
/-- Where chunk `k` starts in the scales of `a`. -/
theorem off2_eq (k : Fin k0_t1_loop.trips) : k0_off2 k = ![256 * k.val, 0] := by
  revert k; decide +kernel

/-- An element of a chunk's product over the reals. -/
theorem prodAt_apply (x3 : Vec Ideal S2048x128 .fp8e4m3) (x4 : Vec Ideal S1x2048 .f32) (x1 : Vec Ideal S1024x128 .fp8e4m3) (x2 : Vec Ideal S1024x1 .f32)
    (k : Fin k0_t1_loop.trips) (j : S256x2048.Idx) (r : Fin 1024) (hr : r.val = 256 * k.val + (j 0).val) :
    prodAt x3 x4 x1 x2 k j
      = (∑ x : Fin 128, x1 (ix2 r x) * x3 (ix2 (j 1) x)) * (x2 (ix2 r 0) * x4 (ix2 0 (j 1))) * Ideal.ofBits .f32 0x3DB504F3#32 := by
  have hr' : 256 * k.val + (j 0).val < 1024 := by omega
  obtain rfl : (⟨256 * k.val + (j 0).val, hr'⟩ : Fin 1024) = r := Fin.ext hr.symm
  unfold prodAt k0_pay3 k0_pay1
  pointwise [off1_eq, off2_eq]

/-- An element of the output block over the reals: row `r` of `a` against column `q` of the block. -/
theorem outV_apply (x3 : Vec Ideal S2048x128 .fp8e4m3) (x4 : Vec Ideal S1x2048 .f32) (x1 : Vec Ideal S1024x128 .fp8e4m3) (x2 : Vec Ideal S1024x1 .f32)
    (y : S128x16x8x128.Idx) (r : Fin 1024) (hr : r.val = 8 * (y 0).val + (y 2).val) (q : Fin 2048) (hq : q.val = 128 * (y 1).val + (y 3).val) :
    outV x3 x4 x1 x2 y
      = (∑ x : Fin 128, x1 (ix2 r x) * x3 (ix2 q x)) * (x2 (ix2 r 0) * x4 (ix2 0 q)) * Ideal.ofBits .f32 0x3DB504F3#32 := by
  obtain rfl : q = (place y) 1 := Fin.ext hq
  refine prodAt_apply x3 x4 x1 x2 (chunkOf y) (place y) r ?_
  show r.val = 256 * ((y 0).val / 32) + (8 * ((y 0).val % 32) + (y 2).val)
  omega

variable (m : (ℓ : Loc nD τ sig) → Buf (Elt Ideal) ℓ)

/-- How much of the block of `b` lies inside the array. -/
theorem xsize_2 : ∀ t : Fin grid0.N, win0_2.xsize (grid0.coords t) 0 = min 2048 (200000 - 2048 * t.val)
    ∧ win0_2.xsize (grid0.coords t) 1 = 128 := by decide +kernel
/-- How much of the block of the scales of `b` lies inside the array. -/
theorem xsize_3 : ∀ t : Fin grid0.N, win0_3.xsize (grid0.coords t) 0 = 1
    ∧ win0_3.xsize (grid0.coords t) 1 = min 2048 (200000 - 2048 * t.val) := by decide +kernel
/-- Each window's block at a point. -/
theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![0, t.val] := by decide +kernel
theorem index_4 : ∀ t : Fin cfg0.N, win0_4.index t = ![0, t.val, 0, 0] := by decide +kernel

/-- The scales of `a` as a column hold the argument's elements. -/
theorem V_main_v0 (c : Dev nD) (r : Fin 1024) : V m c main_v0 (ix2 r 0) = m ((c.tc : Thread nD τ).loc main_arg1) (ix1 r) := by
  entry_read
  pointwise
/-- The scales of `b` as a row hold the argument's elements. -/
theorem V_main_v1 (c : Dev nD) (q : Fin 200000) : V m c main_v1 (ix2 0 q) = m ((c.tc : Thread nD τ).loc main_arg3) (ix1 q) := by
  entry_read
  pointwise

/-- The block of `b` holds the rows of `b` from `2048 t` on, inside the array. -/
theorem bcols_apply (c : Dev nD) (t : Fin cfg0.N) (d) (q : Fin 2048) (x : Fin 128) (Q : Fin 200000) (hQ : Q.val = 2048 * t.val + q.val) :
    bcols m c t d (ix2 q x) = m ((c.tc : Thread nD τ).loc main_arg2) (ix2 Q x) := by
  have hm : win0_2.moved (grid0.coords t) (ix2 q x) = true := (win0_2.moved_iff _ _).mpr fun a => by
    have h := xsize_2 t
    have := Q.isLt; have := q.isLt; have := x.isLt
    fin_cases a
    · show q.val < win0_2.xsize (grid0.coords t) 0
      omega
    · show x.val < win0_2.xsize (grid0.coords t) 1
      omega
  unfold bcols Window.fill
  rw [dif_pos hm]
  blk_simp [iblk]
  rw [V_main_arg2]
  refine congrArg _ ?_
  blk_ext [index_2]

/-- The block of the scales of `b` likewise. -/
theorem bscales_apply (c : Dev nD) (t : Fin cfg0.N) (d) (q : Fin 2048) (Q : Fin 200000) (hQ : Q.val = 2048 * t.val + q.val) :
    bscales m c t d (ix2 0 q) = m ((c.tc : Thread nD τ).loc main_arg3) (ix1 Q) := by
  have hm : win0_3.moved (grid0.coords t) (ix2 0 q) = true := (win0_3.moved_iff _ _).mpr fun a => by
    have h := xsize_3 t
    have := Q.isLt; have := q.isLt
    fin_cases a
    · show 0 < win0_3.xsize (grid0.coords t) 0
      omega
    · show q.val < win0_3.xsize (grid0.coords t) 1
      omega
  unfold bscales Window.fill
  rw [dif_pos hm]
  blk_simp [iblk]
  rw [← V_main_v1 m c Q]
  refine congrArg _ ?_
  blk_ext [index_3]

/-- The block of `a` is all of `a`. -/
theorem a_apply (c : Dev nD) (t : Fin cfg0.N) (r : Fin 1024) (x : Fin 128) :
    iblk m c 0 t (ix2 r x) = m ((c.tc : Thread nD τ).loc main_arg0) (ix2 r x) := by
  blk_simp [iblk]
  rw [V_main_arg0]
  refine congrArg _ ?_
  blk_ext [index_0]
/-- The block of the scales of `a` is all of them. -/
theorem sa_apply (c : Dev nD) (t : Fin cfg0.N) (r : Fin 1024) :
    iblk m c 1 t (ix2 r 0) = m ((c.tc : Thread nD τ).loc main_arg1) (ix1 r) := by
  blk_simp [iblk]
  rw [← V_main_v0 m c r]
  refine congrArg _ ?_
  blk_ext [index_1]

/-- What the body leaves at an element of the output block inside the columns of `b`. -/
theorem outAt_apply (c : Dev nD) (t : Fin cfg0.N) (d2 d3) (y : S128x16x8x128.Idx) (r : Fin 1024)
    (hr : r.val = 8 * (y 0).val + (y 2).val) (Q : Fin 200000) (hQ : Q.val = 2048 * t.val + 128 * (y 1).val + (y 3).val) :
    outAt m c t d2 d3 y = scaled (m ((c.tc : Thread nD τ).loc main_arg0)) (m ((c.tc : Thread nD τ).loc main_arg1))
      (m ((c.tc : Thread nD τ).loc main_arg2)) (m ((c.tc : Thread nD τ).loc main_arg3)) r Q := by
  have h1 : (y 1).val < 16 := (y 1).isLt
  have h3 : (y 3).val < 128 := (y 3).isLt
  unfold outAt scaled
  rw [outV_apply _ _ _ _ y r hr ⟨128 * (y 1).val + (y 3).val, by omega⟩ rfl, sa_apply,
    bscales_apply m c t d3 _ Q (by rw [hQ]; exact Nat.add_assoc _ _ _)]
  simp only [a_apply, bcols_apply m c t d2 ⟨128 * (y 1).val + (y 3).val, by omega⟩ _ Q (by rw [hQ]; exact Nat.add_assoc _ _ _)]

set_option backward.isDefEq.respectTransparency.types false in
/-- What the kernel's result holds after a run, at every element inside the columns of `b`. -/
theorem result (r : PUnit × MemSt nD τ sig (Elt Ideal)) (h : Post m r) (c : Dev nD) (i : S128x1563x8x128.Idx)
    (hi : 128 * (i 1).val + (i 3).val < 200000) :
    r.2.mem ((c.tc : Thread nD τ).loc main_v2) i = scaled (m ((c.tc : Thread nD τ).loc main_arg0)) (m ((c.tc : Thread nD τ).loc main_arg1))
      (m ((c.tc : Thread nD τ).loc main_arg2)) (m ((c.tc : Thread nD τ).loc main_arg3)) (rowOf i) ⟨128 * (i 1).val + (i 3).val, hi⟩ := by
  obtain ⟨after, hL, hA⟩ := h.1.exists_exact c
  have e := hA 4
  have key := (((dats m 0 c).toRRel fgt (leavesOut m c)).withAfter after).arrAt_forall_of_covers 4
    (fun (i : S128x1563x8x128.Idx) v => ∀ hi : 128 * (i 1).val + (i 3).val < 200000,
      v = scaled (m ((c.tc : Thread nD τ).loc main_arg0)) (m ((c.tc : Thread nD τ).loc main_arg1))
      (m ((c.tc : Thread nD τ).loc main_arg2)) (m ((c.tc : Thread nD τ).loc main_arg3)) (rowOf i) ⟨128 * (i 1).val + (i 3).val, hi⟩)
    (by decide +kernel) (fun t hf y hi => by
      obtain ⟨d2, d3, hX⟩ : leavesOut m c 4 t (after 4 t) :=
        (dats m 0 c).toRRel_leaves (fgt := fgt) (Rl := leavesOut m c) (w := 4) rfl (hL 4 t hf)
      blk_simp
      show after 4 t _ = _
      rw [hX]
      have e0 : win0_4.index t 0 = 0 := by rw [index_4 t]; rfl
      have e1 : win0_4.index t 1 = t.val := by rw [index_4 t]; rfl
      have e2 : win0_4.index t 2 = 0 := by rw [index_4 t]; rfl
      have e3 : win0_4.index t 3 = 0 := by rw [index_4 t]; rfl
      refine outAt_apply m c t d2 d3 _ _ ?_ _ ?_
      · show 8 * (((win0_4.blk t).view.emb y) 0).val + (((win0_4.blk t).view.emb y) 2).val = 8 * (y 0).val + (y 2).val
        blk_simp
        omega
      · show 128 * (win0_4.index t 1 * 16 + (y 1).val) + (win0_4.index t 3 * 128 + (y 3).val) = 2048 * t.val + 128 * (y 1).val + (y 3).val
        rw [e1, e3]
        omega) i
  exact (congrFun e i).trans (key hi)

end Cert.KernelIdeal.Dense
-- ==== Proof.RefValue.lean ====
module

public import proofs.«01_k».proof.Proof.Gen.ReferenceIdeal.Frame
public import Idealize.ShloMosaic.Lib.Pipeline.ValueKit
public import proofs.«01_k».proof.Proof.Scaled
public import Idealize.ShloMosaic.Lib.Pointwise
public import Idealize.ShloMosaic.Lib.StableHlo.ReadAt

@[expose] public section

set_option maxRecDepth 16384

noncomputable section

namespace Cert.ReferenceIdeal.Products

open Cert.ReferenceIdeal Cert.ReferenceIdeal.Gen
open Idealize.ShloMosaic Idealize.ShloMosaic.TcCoe Idealize.ShloMosaic.Tactic
open Idealize.SL Idealize.SL.RA
open Idealize.ShloMosaic.Pipeline (Dat Cfg Window)

/-- An element of the reference's product. -/
theorem pay_apply (x0 : Vec Ideal S1024x128 .fp8e4m3) (x1 : Vec Ideal S1024x1 .f32) (x2 : Vec Ideal S200000x128 .fp8e4m3) (x3 : Vec Ideal S1x200000 .f32)
    (r : Fin 1024) (q : Fin 200000) :
    k0_pay1 x0 x2 x1 x3 (ix2 r q)
      = (∑ x : Fin 128, x0 (ix2 r x) * x2 (ix2 q x)) * (x1 (ix2 r 0) * x3 (ix2 0 q)) * Ideal.ofBits .f32 0x3DB504F3#32 := by
  unfold k0_pay1
  pointwise

variable (m : (ℓ : Loc nD τ sig) → Buf (Elt Ideal) ℓ)

/-- The scales of `a` as a column hold the argument's elements. -/
theorem V_main_v0 (c : Dev nD) (r : Fin 1024) : V m c main_v0 (ix2 r 0) = m ((c.tc : Thread nD τ).loc main_arg1) (ix1 r) := by
  unfold V V0
  after_reads_at
/-- The scales of `b` as a row hold the argument's elements. -/
theorem V_main_v1 (c : Dev nD) (q : Fin 200000) : V m c main_v1 (ix2 0 q) = m ((c.tc : Thread nD τ).loc main_arg3) (ix1 q) := by
  unfold V V0
  after_reads_at

/-- Each window's one block is the whole array. -/
theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel

/-- The block of `a`. -/
theorem a_apply (c : Dev nD) (t : Fin cfg0.N) (r : Fin 1024) (x : Fin 128) :
    iblk m c 0 t (ix2 r x) = m ((c.tc : Thread nD τ).loc main_arg0) (ix2 r x) := by
  blk_simp [iblk]
  rw [V_main_arg0]
  refine congrArg _ ?_
  blk_ext [index_0]
/-- The block of the scales of `a`. -/
theorem sa_apply (c : Dev nD) (t : Fin cfg0.N) (r : Fin 1024) :
    iblk m c 1 t (ix2 r 0) = m ((c.tc : Thread nD τ).loc main_arg1) (ix1 r) := by
  blk_simp [iblk]
  rw [← V_main_v0 m c r]
  refine congrArg _ ?_
  blk_ext [index_1]
/-- The block of `b`. -/
theorem b_apply (c : Dev nD) (t : Fin cfg0.N) (q : Fin 200000) (x : Fin 128) :
    iblk m c 2 t (ix2 q x) = m ((c.tc : Thread nD τ).loc main_arg2) (ix2 q x) := by
  blk_simp [iblk]
  rw [V_main_arg2]
  refine congrArg _ ?_
  blk_ext [index_2]
/-- The block of the scales of `b`. -/
theorem sb_apply (c : Dev nD) (t : Fin cfg0.N) (q : Fin 200000) :
    iblk m c 3 t (ix2 0 q) = m ((c.tc : Thread nD τ).loc main_arg3) (ix1 q) := by
  blk_simp [iblk]
  rw [← V_main_v1 m c q]
  refine congrArg _ ?_
  blk_ext [index_3]

/-- What the reference's body leaves at an element. -/
theorem out_apply (c : Dev nD) (t : Fin cfg0.N) (r : Fin 1024) (q : Fin 200000) :
    out0_4 (iblk m c 0 t) (iblk m c 1 t) (iblk m c 2 t) (iblk m c 3 t) (ix2 r q)
      = scaled (m ((c.tc : Thread nD τ).loc main_arg0)) (m ((c.tc : Thread nD τ).loc main_arg1))
      (m ((c.tc : Thread nD τ).loc main_arg2)) (m ((c.tc : Thread nD τ).loc main_arg3)) r q := by
  unfold out0_4
  frame_out
  rw [pay_apply, sa_apply, sb_apply]
  simp only [a_apply, b_apply]
  rfl

/-- The products' array after the region. -/
theorem products (c : Dev nD) (r : Fin 1024) (q : Fin 200000) :
    (dats m 0 c).arrAt 4 cfg0.N (ix2 r q)
      = scaled (m ((c.tc : Thread nD τ).loc main_arg0)) (m ((c.tc : Thread nD τ).loc main_arg1))
      (m ((c.tc : Thread nD τ).loc main_arg2)) (m ((c.tc : Thread nD τ).loc main_arg3)) r q := by
  refine Eq.trans ?_ (out_apply m c ⟨0, by decide⟩ r q)
  refine ((dats m 0 c).arrAt_emb_eq_after_last 4 ⟨0, by decide⟩ (by decide +kernel) (ix2 r q)).trans ?_
  exact congrFun (after0_4 m c ⟨0, by decide⟩) (ix2 r q)

/-- The products' buffer as the lines after the region find it. -/
theorem products_after (c : Dev nD) (r : Fin 1024) (q : Fin 200000) :
    Pipeline.withArrays (cfgs 0).spec c (V0 m c) (fun w => (dats m 0 c).arrAt w (cfgs 0).N) (Proc.devRef .tc main_v2) (ix2 r q)
      = scaled (m ((c.tc : Thread nD τ).loc main_arg0)) (m ((c.tc : Thread nD τ).loc main_arg1))
      (m ((c.tc : Thread nD τ).loc main_arg2)) (m ((c.tc : Thread nD τ).loc main_arg3)) r q :=
  (congrFun (Pipeline.withArrays_arr spec0 launch0.win.arr_inj c (V0 m c) (fun w => (dats m 0 c).arrAt w cfg0.N) 4) (ix2 r q)).trans
    (products m c r q)

/-- The result: the products padded to whole tiles and reordered, at every element inside the columns of `b`. -/
theorem tail_apply (c : Dev nD) (i : S128x1563x8x128.Idx) (hi : 128 * (i 1).val + (i 3).val < 200000) :
    Pipeline.afterTail₀ cfgs (dats m) 0 (V0 m) [hostOps1, hostOps1_1, hostOps1_2] c main_v5 i
      = scaled (m ((c.tc : Thread nD τ).loc main_arg0)) (m ((c.tc : Thread nD τ).loc main_arg1))
      (m ((c.tc : Thread nD τ).loc main_arg2)) (m ((c.tc : Thread nD τ).loc main_arg3)) (rowOf i) ⟨128 * (i 1).val + (i 3).val, hi⟩ := by
  generalize hS : scaled (m ((c.tc : Thread nD τ).loc main_arg0)) (m ((c.tc : Thread nD τ).loc main_arg1))
      (m ((c.tc : Thread nD τ).loc main_arg2)) (m ((c.tc : Thread nD τ).loc main_arg3)) (rowOf i) ⟨128 * (i 1).val + (i 3).val, hi⟩ = S
  unfold Pipeline.afterTail₀
  after_reads_at
  have hc : (i 0).val * 8 + (i 2).val < 1024 ∧ (i 1).val * 128 + (i 3).val < 200000 := by
    have h0 : (i 0).val < 128 := (i 0).isLt
    have h2 : (i 2).val < 8 := (i 2).isLt
    omega
  rw [dif_pos hc]
  refine (products_after m c _ _).trans ((congrArg₂ (scaled _ _ _ _) (Fin.ext ?_) (Fin.ext ?_)).trans hS)
  · show (i 0).val * 8 + (i 2).val = 8 * (i 0).val + (i 2).val
    omega
  · show (i 1).val * 128 + (i 3).val = 128 * (i 1).val + (i 3).val
    omega

/-- What the reference's result holds after a run, at every element inside the columns of `b`. -/
theorem result (r : PUnit × MemSt nD τ sig (Elt Ideal))
    (h : Pipeline.FramePost cfgs (dats m) 0 (Pipeline.afterTail₀ cfgs (dats m) 0 (V0 m) [hostOps1, hostOps1_1, hostOps1_2]) r)
    (c : Dev nD) (i : S128x1563x8x128.Idx) (hi : 128 * (i 1).val + (i 3).val < 200000) :
    r.2.mem ((c.tc : Thread nD τ).loc main_v5) i
      = scaled (m ((c.tc : Thread nD τ).loc main_arg0)) (m ((c.tc : Thread nD τ).loc main_arg1))
      (m ((c.tc : Thread nD τ).loc main_arg2)) (m ((c.tc : Thread nD τ).loc main_arg3)) (rowOf i) ⟨128 * (i 1).val + (i 3).val, hi⟩ :=
  (congrFun ((h c).2 main_v5 (Pipeline.mem_restRefs_of main_v5 (by decide) (by decide))) i).trans (tail_apply m c i hi)

end Cert.ReferenceIdeal.Products
-- ==== Proof.Mask.lean ====
module

public import proofs.«01_k».proof.On_in_range
public import Idealize.ShloMosaic.Lib.Pointwise
public import Idealize.ShloMosaic.Lib.IdealHost
public import Idealize.ShloMosaic.Lib.Tactic.WordOmega

@[expose] public section

noncomputable section

namespace Cert.On_in_range

open Idealize.ShloMosaic

variable [Facts]

/-- An element that the mask marks lies inside the columns of `b`. -/
theorem inside {F : FTy → Type} [FloatOps F] (a : FVec F S1024x128 .fp8e4m3) (sa : FVec F S1024 .f32) (b : FVec F S200000x128 .fp8e4m3)
    (sb : FVec F S200000 .f32) (i : S128x1563x8x128.Idx) (h : fn a sa b sb i = 1#1) : 128 * (i 1).val + (i 3).val < 200000 := by
  have h1 : (i 1).val < 1563 := (i 1).isLt
  have h3 : (i 3).val < 128 := (i 3).isLt
  unfold fn at h
  pointwise at h
  have e : IntOp.muli (BitVec.ofNat 32 (i 1).val) 128#32 = BitVec.ofNat 32 (128 * (i 1).val) := by
    rw [Nat.mul_comm]
    exact BitVec.ofNat_mul_ofNat _ _
  rw [e] at h
  word_omega

end Cert.On_in_range
-- ==== Proof.lean ====
/- The claims: the kernel and its reading over the extended reals end without fault, leave their arguments as they were and
   every semaphore at zero; so does the reference; and over the extended reals the two results agree at every element whose
   column is one of the 200000 rows of `b`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.On_in_range
public import proofs.«01_k».proof.Proof.KernelRun
public import proofs.«01_k».proof.Proof.Value
public import proofs.«01_k».proof.Proof.RefValue
public import proofs.«01_k».proof.Proof.Mask
public import Idealize.ShloMosaic.Adequacy
public import Idealize.ShloMosaic.Init

@[expose] public section

noncomputable section

namespace Cert.Proof

open Idealize.ShloMosaic Idealize.SL.Sem

/-- The kernel ends, with its arguments as they were and its semaphores at zero. -/
theorem kernel_ends : Cert.quiescent_Kernel := fun m g _ =>
  (θ_run _ _ _).mono (fun r h => ⟨fun c => Cert.Kernel.Dense.args_of_post m r h c, h.2⟩) (Cert.Kernel.Dense.run_main m g)

/-- So does its reading over the extended reals. -/
theorem kernelIdeal_ends : Cert.quiescent_KernelIdeal := fun m g _ =>
  (θ_run _ _ _).mono (fun r h => ⟨fun c => Cert.KernelIdeal.Dense.args_of_post m r h c, h.2⟩) (Cert.KernelIdeal.Dense.run_main m g)

/-- At a marked element the scaled product of its row of `a` and its row of `b` is what is wanted. -/
theorem wanted_eq (a sa b sb) (i : Shape.Idx ⟨4, ![128, 1563, 8, 128]⟩) (hi : 128 * (i 1).val + (i 3).val < 200000) :
    wanted a sa b sb i = scaled a sa b sb (rowOf i) ⟨128 * (i 1).val + (i 3).val, hi⟩ := dif_pos hi

/-- Kernel and reference leave the same scaled products at every marked element. -/
theorem same : Cert.algebraic_KernelIdeal_ReferenceIdeal_on_in_range := fun m g m' g' _ hm =>
  ⟨fun c => wanted (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run _ _ _).mono (fun r h c => ⟨fun i hi =>
        have hi' := Cert.On_in_range.inside _ _ _ _ i hi
        (Cert.KernelIdeal.Dense.result m r h c i hi').trans (wanted_eq _ _ _ _ i hi').symm,
      Cert.KernelIdeal.Dense.args_of_post m r h c⟩) (Cert.KernelIdeal.Dense.run_main m g),
    (θ_run _ _ _).mono (fun r h c => ⟨fun i hi => by
        have hi' := Cert.On_in_range.inside _ _ _ _ i hi
        obtain ⟨e0, e1, e2, e3⟩ := hm c
        refine (Cert.ReferenceIdeal.Products.result m' r h.2.1 c i hi').trans ?_
        rw [e0, e1, e2, e3]
        exact (wanted_eq _ _ _ _ i hi').symm,
      h.1.1 c⟩)
      (θ_run_and (Cert.ReferenceIdeal.Gen.frame m' g') (Cert.ReferenceIdeal.Gen.run_main_quiescent m' g'))⟩

theorem claim : Cert.Claim :=
  ⟨Cert.Kernel.Gen.facts, Cert.KernelIdeal.Gen.facts, Cert.ReferenceIdeal.Gen.facts, Cert.On_in_range.Gen.facts,
    kernel_ends, kernelIdeal_ends, fun m g _ => Cert.ReferenceIdeal.Gen.frame m g, trivial, same⟩

end Cert.Proof

end
